-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_below_infinity [hPre_gates_below_infinity : Cert.Pre_gates_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_gates_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_below_infinity [hPre_gates_below_infinity : Cert.Pre_gates_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gates_below_infinity [hKernelIdeal : Cert.KernelIdeal.Facts] [hPre_gates_below_infinity : Cert.Pre_gates_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gates_below_infinity [hReferenceIdeal : Cert.ReferenceIdeal.Facts] [hPre_gates_below_infinity : Cert.Pre_gates_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_gates_below_infinity [hKernelIdeal : Cert.KernelIdeal.Facts] [hReferenceIdeal : Cert.ReferenceIdeal.Facts] [hPre_gates_below_infinity : Cert.Pre_gates_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_gates_below_infinity : Cert.Pre_gates_below_infinity.Facts),
    quiescent_Kernel (hKernel := hKernel)
    ∧ quiescent_KernelIdeal (hKernelIdeal := hKernelIdeal)
    ∧ quiescent_KernelIdeal_pre_gates_below_infinity (hKernelIdeal := hKernelIdeal) (hPre_gates_below_infinity := hPre_gates_below_infinity)
    ∧ quiescent_ReferenceIdeal (hReferenceIdeal := hReferenceIdeal)
    ∧ quiescent_ReferenceIdeal_pre_gates_below_infinity (hReferenceIdeal := hReferenceIdeal) (hPre_gates_below_infinity := hPre_gates_below_infinity)
    ∧ preserves_Kernel_KernelIdeal
    ∧ algebraic_KernelIdeal_ReferenceIdeal_pre_gates_below_infinity (hKernelIdeal := hKernelIdeal) (hReferenceIdeal := hReferenceIdeal) (hPre_gates_below_infinity := hPre_gates_below_infinity)
-- ==== Pre_gates_below_infinity.lean ====
abbrev S4x8192x768 : Shape := ⟨3, ![4, 8192, 768]⟩
abbrev S4x8192x8 : Shape := ⟨3, ![4, 8192, 8]⟩
abbrev S8x768x768 : Shape := ⟨3, ![8, 768, 768]⟩
abbrev S8x768 : Shape := ⟨2, ![8, 768]⟩
abbrev S_ : Shape := ⟨0, ![]⟩

class Facts : Prop where
  bcast_S_S4x8192x8 : S_.BroadcastsInDim S4x8192x8 (![] : Fin 0 → Fin S4x8192x8.rank)
  reducesTo_S4x8192x8_S_d0_1_2 : S4x8192x8.ReducesTo [0, 1, 2] S_
  h_S_ : 0 < S_.numel

variable [Facts]

def fn {F : FTy → Type} [FloatOps F] (main_arg0 : FVec F S4x8192x768 .f32) (main_arg1 : FVec F S4x8192x8 .f32) (main_arg2 : FVec F S8x768x768 .f32) (main_arg3 : FVec F S8x768 .f32) : IVec S_ 1 :=
  let main_cst : FVec F S_ .f32 := constant S_ .f32 0x7F800000#32
  let main_v0 : FVec F S4x8192x8 .f32 := broadcastInDim S4x8192x8 ![] bcast_S_S4x8192x8 main_cst
  let main_v1 : IVec S4x8192x8 1 := cmpf .olt main_arg1 main_v0
  let main_c : IVec S_ 1 := constantI S_ 1 1#1
  let main_v2 : IVec S_ 1 := (fun x v => Host.reduce IntOp.andi x v reducesTo_S4x8192x8_S_d0_1_2 h_S_) main_v1 main_c
  main_v2
-- ==== Kernel.lean ====
abbrev S4x8192x768 : Shape := ⟨3, ![4, 8192, 768]⟩
abbrev S4x8192x8 : Shape := ⟨3, ![4, 8192, 8]⟩
abbrev S8x768x768 : Shape := ⟨3, ![8, 768, 768]⟩
abbrev S8x768 : Shape := ⟨2, ![8, 768]⟩
abbrev S32768x768 : Shape := ⟨2, ![32768, 768]⟩
abbrev S32768x8 : Shape := ⟨2, ![32768, 8]⟩
abbrev S6144x768 : Shape := ⟨2, ![6144, 768]⟩
abbrev S1024x768 : Shape := ⟨2, ![1024, 768]⟩
abbrev S1024x8 : Shape := ⟨2, ![1024, 8]⟩
abbrev S1024x1 : Shape := ⟨2, ![1024, 1]⟩
abbrev S1024x6144 : Shape := ⟨2, ![1024, 6144]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x768, .f32⟩
  | .hbm, ⟨1, _⟩ => ⟨S4x8192x8, .f32⟩
  | .hbm, ⟨2, _⟩ => ⟨S8x768x768, .f32⟩
  | .hbm, ⟨3, _⟩ => ⟨S8x768, .f32⟩
  | .hbm, ⟨4, _⟩ => ⟨S32768x768, .f32⟩
  | .hbm, ⟨5, _⟩ => ⟨S32768x8, .f32⟩
  | .hbm, ⟨6, _⟩ => ⟨S6144x768, .f32⟩
  | .hbm, ⟨7, _⟩ => ⟨S6144x768, .bf16⟩
  | .hbm, ⟨8, _⟩ => ⟨S8x768, .bf16⟩
  | .hbm, ⟨9, _⟩ => ⟨S32768x768, .f32⟩
  | .hbm, ⟨10, _⟩ => ⟨S4x8192x768, .f32⟩
  | .local _ .vmem, ⟨0, _⟩ => ⟨S1024x768, .f32⟩
  | .local _ .vmem, ⟨1, _⟩ => ⟨S1024x768, .f32⟩
  | .local _ .vmem, ⟨2, _⟩ => ⟨S1024x8, .f32⟩
  | .local _ .vmem, ⟨3, _⟩ => ⟨S1024x8, .f32⟩
  | .local _ .vmem, ⟨4, _⟩ => ⟨S6144x768, .bf16⟩
  | .local _ .vmem, ⟨5, _⟩ => ⟨S8x768, .bf16⟩
  | .local _ .vmem, ⟨6, _⟩ => ⟨S1024x768, .f32⟩
  | .local _ .vmem, ⟨7, _⟩ => ⟨S1024x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6144x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x8192x768 : Shape := ⟨3, ![4, 8192, 768]⟩
abbrev S4x8192x8 : Shape := ⟨3, ![4, 8192, 8]⟩
abbrev S8x768x768 : Shape := ⟨3, ![8, 768, 768]⟩
abbrev S8x768 : Shape := ⟨2, ![8, 768]⟩
abbrev S32768x768 : Shape := ⟨2, ![32768, 768]⟩
abbrev S32768x8 : Shape := ⟨2, ![32768, 8]⟩
abbrev S_ : Shape := ⟨0, ![]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S32768x1 : Shape := ⟨2, ![32768, 1]⟩

abbrev nBuf : Space → Nat
  | .hbm => 111
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192x8, .f32⟩
  | .hbm, ⟨2, _⟩ => ⟨S8x768x768, .f32⟩
  | .hbm, ⟨3, _⟩ => ⟨S8x768, .f32⟩
  | .hbm, ⟨4, _⟩ => ⟨S32768x768, .f32⟩
  | .hbm, ⟨5, _⟩ => ⟨S32768x8, .f32⟩
  | .hbm, ⟨6, _⟩ => ⟨S_, .f32⟩
  | .hbm, ⟨7, _⟩ => ⟨S32768x8, .f32⟩
  | .hbm, ⟨8, _⟩ => ⟨S32768x8, .i1⟩
  | .hbm, ⟨9, _⟩ => ⟨S_, .f32⟩
  | .hbm, ⟨10, _⟩ => ⟨S32768x8, .f32⟩
  | .hbm, ⟨11, _⟩ => ⟨S32768x8, .f32⟩
  | .hbm, ⟨12, _⟩ => ⟨S_, .f32⟩
  | .hbm, ⟨13, _⟩ => ⟨S32768x768, .f32⟩
  | .hbm, ⟨14, _⟩ => ⟨S1x768x768, .f32⟩
  | .hbm, ⟨15, _⟩ => ⟨S768x768, .f32⟩
  | .hbm, ⟨16, _⟩ => ⟨S32768x768, .f32⟩
  | .hbm, ⟨17, _⟩ => ⟨S1x768, .f32⟩
  | .hbm, ⟨18, _⟩ => ⟨S768, .f32⟩
  | .hbm, ⟨19, _⟩ => ⟨S1x768, .f32⟩
  | .hbm, ⟨20, _⟩ => ⟨S32768x768, .f32⟩
  | .hbm, ⟨21, _⟩ => ⟨S32768x768, .f32⟩
  | .hbm, ⟨22, _⟩ => ⟨S32768x1, .f32⟩
  | .hbm, ⟨23, _⟩ => ⟨S32768x768, .f32⟩
  | .hbm, ⟨24, _⟩ => ⟨S32768x768, .f32⟩
  | .hbm, ⟨25, _⟩ => ⟨S32768x768, .f32⟩
  | .hbm, ⟨26, _⟩ => ⟨S1x768x768, .f32⟩
  | .hbm, ⟨27, _⟩ => ⟨S768x768, .f32⟩
  | .hbm, ⟨28, _⟩ => ⟨S32768x768, .f32⟩
  | .hbm, ⟨29, _⟩ => ⟨S1x768, .f32⟩
  | .hbm, ⟨30, _⟩ => ⟨S768, .f32⟩
  | .hbm, ⟨31, _⟩ => ⟨S1x768, .f32⟩
  | .hbm, ⟨32, _⟩ => ⟨S32768x768, .f32⟩
  | .hbm, ⟨33, _⟩ => ⟨S32768x768, .f32⟩
  | .hbm, ⟨34, _⟩ => ⟨S32768x1, .f32⟩
  | .hbm, ⟨35, _⟩ => ⟨S32768x768, .f32⟩
  | .hbm, ⟨36, _⟩ => ⟨S32768x768, .f32⟩
  | .hbm, ⟨37, _⟩ => ⟨S32768x768, .f32⟩
  | .hbm, ⟨38, _⟩ => ⟨S1x768x768, .f32⟩
  | .hbm, ⟨39, _⟩ => ⟨S768x768, .f32⟩
  | .hbm, ⟨40, _⟩ => ⟨S32768x768, .f32⟩
  | .hbm, ⟨41, _⟩ => ⟨S1x768, .f32⟩
  | .hbm, ⟨42, _⟩ => ⟨S768, .f32⟩
  | .hbm, ⟨43, _⟩ => ⟨S1x768, .f32⟩
  | .hbm, ⟨44, _⟩ => ⟨S32768x768, .f32⟩
  | .hbm, ⟨45, _⟩ => ⟨S32768x768, .f32⟩
  | .hbm, ⟨46, _⟩ => ⟨S32768x1, .f32⟩
  | .hbm, ⟨47, _⟩ => ⟨S32768x768, .f32⟩
  | .hbm, ⟨48, _⟩ => ⟨S32768x768, .f32⟩
  | .hbm, ⟨49, _⟩ => ⟨S32768x768, .f32⟩
  | .hbm, ⟨50, _⟩ => ⟨S1x768x768, .f32⟩
  | .hbm, ⟨51, _⟩ => ⟨S768x768, .f32⟩
  | .hbm, ⟨52, _⟩ => ⟨S32768x768, .f32⟩
  | .hbm, ⟨53, _⟩ => ⟨S1x768, .f32⟩
  | .hbm, ⟨54, _⟩ => ⟨S768, .f32⟩
  | .hbm, ⟨55, _⟩ => ⟨S1x768, .f32⟩
  | .hbm, ⟨56, _⟩ => ⟨S32768x768, .f32⟩
  | .hbm, ⟨57, _⟩ => ⟨S32768x768, .f32⟩
  | .hbm, ⟨58, _⟩ => ⟨S32768x1, .f32⟩
  | .hbm, ⟨59, _⟩ => ⟨S32768x768, .f32⟩
  | .hbm, ⟨60, _⟩ => ⟨S32768x768, .f32⟩
  | .hbm, ⟨61, _⟩ => ⟨S32768x768, .f32⟩
  | .hbm, ⟨62, _⟩ => ⟨S1x768x768, .f32⟩
  | .hbm, ⟨63, _⟩ => ⟨S768x768, .f32⟩
  | .hbm, ⟨64, _⟩ => ⟨S32768x768, .f32⟩
  | .hbm, ⟨65, _⟩ => ⟨S1x768, .f32⟩
  | .hbm, ⟨66, _⟩ => ⟨S768, .f32⟩
  | .hbm, ⟨67, _⟩ => ⟨S1x768, .f32⟩
  | .hbm, ⟨68, _⟩ => ⟨S32768x768, .f32⟩
  | .hbm, ⟨69, _⟩ => ⟨S32768x768, .f32⟩
  | .hbm, ⟨70, _⟩ => ⟨S32768x1, .f32⟩
  | .hbm, ⟨71, _⟩ => ⟨S32768x768, .f32⟩
  | .hbm, ⟨72, _⟩ => ⟨S32768x768, .f32⟩
  | .hbm, ⟨73, _⟩ => ⟨S32768x768, .f32⟩
  | .hbm, ⟨74, _⟩ => ⟨S1x768x768, .f32⟩
  | .hbm, ⟨75, _⟩ => ⟨S768x768, .f32⟩
  | .hbm, ⟨76, _⟩ => ⟨S32768x768, .f32⟩
  | .hbm, ⟨77, _⟩ => ⟨S1x768, .f32⟩
  | .hbm, ⟨78, _⟩ => ⟨S768, .f32⟩
  | .hbm, ⟨79, _⟩ => ⟨S1x768, .f32⟩
  | .hbm, ⟨80, _⟩ => ⟨S32768x768, .f32⟩
  | .hbm, ⟨81, _⟩ => ⟨S32768x768, .f32⟩
  | .hbm, ⟨82, _⟩ => ⟨S32768x1, .f32⟩
  | .hbm, ⟨83, _⟩ => ⟨S32768x768, .f32⟩
  | .hbm, ⟨84, _⟩ => ⟨S32768x768, .f32⟩
  | .hbm, ⟨85, _⟩ => ⟨S32768x768, .f32⟩
  | .hbm, ⟨86, _⟩ => ⟨S1x768x768, .f32⟩
  | .hbm, ⟨87, _⟩ => ⟨S768x768, .f32⟩
  | .hbm, ⟨88, _⟩ => ⟨S32768x768, .f32⟩
  | .hbm, ⟨89, _⟩ => ⟨S1x768, .f32⟩
  | .hbm, ⟨90, _⟩ => ⟨S768, .f32⟩
  | .hbm, ⟨91, _⟩ => ⟨S1x768, .f32⟩
  | .hbm, ⟨92, _⟩ => ⟨S32768x768, .f32⟩
  | .hbm, ⟨93, _⟩ => ⟨S32768x768, .f32⟩
  | .hbm, ⟨94, _⟩ => ⟨S32768x1, .f32⟩
  | .hbm, ⟨95, _⟩ => ⟨S32768x768, .f32⟩
  | .hbm, ⟨96, _⟩ => ⟨S32768x768, .f32⟩
  | .hbm, ⟨97, _⟩ => ⟨S32768x768, .f32⟩
  | .hbm, ⟨98, _⟩ => ⟨S1x768x768, .f32⟩
  | .hbm, ⟨99, _⟩ => ⟨S768x768, .f32⟩
  | .hbm, ⟨100, _⟩ => ⟨S32768x768, .f32⟩
  | .hbm, ⟨101, _⟩ => ⟨S1x768, .f32⟩
  | .hbm, ⟨102, _⟩ => ⟨S768, .f32⟩
  | .hbm, ⟨103, _⟩ => ⟨S1x768, .f32⟩
  | .hbm, ⟨104, _⟩ => ⟨S32768x768, .f32⟩
  | .hbm, ⟨105, _⟩ => ⟨S32768x768, .f32⟩
  | .hbm, ⟨106, _⟩ => ⟨S32768x1, .f32⟩
  | .hbm, ⟨107, _⟩ => ⟨S32768x768, .f32⟩
  | .hbm, ⟨108, _⟩ => ⟨S32768x768, .f32⟩
  | .hbm, ⟨109, _⟩ => ⟨S32768x768, .f32⟩
  | .hbm, ⟨110, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩

abbrev nD : Nat := 1
abbrev τ : Topo := Topo.v7x

variable {F : FTy → Type} [FloatOps F]
-- ==== Proof.Mixture.lean ====
/- The equation between the two ways of mixing the experts, on extended reals. The kernel scales a token's features by each
   expert's gate, lays the eight scaled copies side by side and takes ONE product with the eight weight matrices stacked,
   then adds the gated biases; the reference forms every expert's `x·W + b` first and scales that. The two agree because a
   gate that is nonnegative and below +∞ distributes over the inner sum. -/
module

public import Mathlib.Data.EReal.Inv
public import Mathlib.Algebra.BigOperators.Fin
public import Mathlib.Logic.Equiv.Fin.Basic

@[expose] public section

noncomputable section

namespace Cert.Proof.Mixture

open scoped BigOperators

/-- Which expert a position of the stacked contraction belongs to: 768 consecutive positions per expert. -/
def expert (k : Fin 6144) : Fin 8 := ⟨k.val / 768, by have := k.isLt; omega⟩

/-- Which feature a position of the stacked contraction is. -/
def feature (k : Fin 6144) : Fin 768 := ⟨k.val % 768, Nat.mod_lt _ (by decide)⟩

/-- The position of expert `e`'s feature `d` in the stacked contraction. -/
def stacked (e : Fin 8) (d : Fin 768) : Fin 6144 := ⟨e.val * 768 + d.val, by have := e.isLt; have := d.isLt; omega⟩

/-- A position is the pair of its expert and its feature. -/
theorem stacked_expert_feature (k : Fin 6144) : stacked (expert k) (feature k) = k :=
  Fin.ext (Nat.div_add_mod' k.val 768)

theorem expert_stacked (e : Fin 8) (d : Fin 768) : expert (stacked e d) = e := by
  apply Fin.ext; show (e.val * 768 + d.val) / 768 = e.val; have := d.isLt; omega

theorem feature_stacked (e : Fin 8) (d : Fin 768) : feature (stacked e d) = d := by
  apply Fin.ext; show (e.val * 768 + d.val) % 768 = d.val; have := d.isLt; omega

/-- A sum over the stacked contraction is the sum over the experts of the sums over the features. -/
theorem sum_stacked (f : Fin 6144 → EReal) : ∑ k, f k = ∑ e : Fin 8, ∑ d : Fin 768, f (stacked e d) := by
  rw [← Fintype.sum_prod_type' fun e d => f (stacked e d)]
  exact Fintype.sum_equiv
    { toFun := fun k => (expert k, feature k)
      invFun := fun p => stacked p.1 p.2
      left_inv := stacked_expert_feature
      right_inv := fun p => Prod.ext (expert_stacked p.1 p.2) (feature_stacked p.1 p.2) } _ _
    fun k => congrArg f (stacked_expert_feature k).symm

/-- A nonnegative factor below +∞ distributes over a finite sum of extended reals, whatever the summands are. -/
theorem mul_sum_of_gate {ι : Type} (s : Finset ι) (f : ι → EReal) {g : EReal} (h0 : 0 ≤ g) (ht : g ≠ ⊤) :
    g * ∑ i ∈ s, f i = ∑ i ∈ s, g * f i := by
  classical
  induction s using Finset.induction_on with
  | empty => simp
  | insert a s ha ih =>
    rw [Finset.sum_insert ha, Finset.sum_insert ha, EReal.left_distrib_of_nonneg_of_ne_top h0 ht, ih]

/-- The reference's value at one token and one output column: every expert's `x·W + b`, scaled by its gate, summed. -/
def mixture (g : Fin 8 → EReal) (x : Fin 768 → EReal) (W : Fin 8 → Fin 768 → EReal) (b : Fin 8 → EReal) : EReal :=
  ∑ e, g e * ((∑ d, x d * W e d) + b e)

/-- The kernel's value at one token and one output column: the gated biases plus the one stacked product. -/
def stackedMixture (g : Fin 8 → EReal) (x : Fin 768 → EReal) (W : Fin 8 → Fin 768 → EReal) (b : Fin 8 → EReal) : EReal :=
  (∑ e, g e * b e) + ∑ k, (g (expert k) * x (feature k)) * W (expert k) (feature k)

/-- The two values are equal when every gate is nonnegative and below +∞. -/
theorem stackedMixture_eq {g : Fin 8 → EReal} (h0 : ∀ e, 0 ≤ g e) (ht : ∀ e, g e ≠ ⊤) (x : Fin 768 → EReal)
    (W : Fin 8 → Fin 768 → EReal) (b : Fin 8 → EReal) : stackedMixture g x W b = mixture g x W b := by
  unfold stackedMixture mixture
  rw [sum_stacked, ← Finset.sum_add_distrib]
  refine Finset.sum_congr rfl fun e _ => ?_
  rw [EReal.left_distrib_of_nonneg_of_ne_top (h0 e) (ht e), mul_sum_of_gate _ _ (h0 e) (ht e), add_comm]
  refine congrArg (· + g e * b e) (Finset.sum_congr rfl fun d _ => ?_)
  rw [expert_stacked, feature_stacked, mul_assoc]

/-- A gate cut off at zero is nonnegative. -/
theorem gate_nonneg (a : EReal) : 0 ≤ max a 0 := le_max_right _ _

/-- A gate below +∞ stays below +∞ when cut off at zero. -/
theorem gate_ne_top {a : EReal} (h : a < ⊤) : max a 0 ≠ ⊤ := (max_lt h EReal.zero_lt_top).ne

end Cert.Proof.Mixture

end
-- ==== Proof.Block.lean ====
/- What ONE block of the kernel computes, at the ideal values: the payload it stores, read at a row and a column, is the
   stacked mixture of that row's features and gates, cut off at zero, with the weights and biases of that column. -/
module

public import proofs.«01_k».proof.Proof.Gen.KernelIdeal.Skeleton
public import proofs.«01_k».proof.Proof.Mixture
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.Proof.Block

open Idealize.ShloMosaic Idealize.SL.Sem Idealize.ShloMosaic.ValueIdx
open Cert.KernelIdeal Cert.KernelIdeal.Gen Cert.Proof.Mixture
open scoped BigOperators

/-- One expert's scaled copy of the features: the expert's gate column, spread over the features, times the features. -/
def scaled (X : FVec Ideal S1024x768 .bf16) (G : FVec Ideal S1024x8 .bf16) (e : Fin 8)
    (h : S1024x8.Slices ![0, e.val] S1024x1) : FVec Ideal S1024x768 .bf16 :=
  mulf (broadcastTo S1024x768 (extractStridedSlice S1024x1 ![0, e.val] G h) broadcasts_S1024x1_S1024x768) X

/-- A column of the gates is a slice of them, for each expert. -/
theorem slices_gate (e : Fin 8) : S1024x8.Slices ![0, e.val] S1024x1 := by
  revert e; decide +kernel

/-- A scaled copy read at a row and a feature is that row's gate for the expert times the feature. -/
theorem scaled_apply (X : FVec Ideal S1024x768 .bf16) (G : FVec Ideal S1024x8 .bf16) (e : Fin 8)
    (h : S1024x8.Slices ![0, e.val] S1024x1) (r : Fin 1024) (d : Fin 768) :
    scaled X G e h (ix2 r d) = G (ix2 r e) * X (ix2 r d) := by
  unfold scaled
  rw [mulf_apply]
  refine congrArg (· * X (ix2 r d)) ?_
  rw [broadcastTo_apply _ _ (ix2 r d) (ix2 r (0 : Fin 1)) (fun a => by fin_cases a <;> rfl)]
  exact extractStridedSlice_apply _ _ _ _ _ (fun a => by fin_cases a <;> simp [ix2])

/-- The eight scaled copies side by side, read at a row and a stacked position. -/
theorem concat_apply (X : FVec Ideal S1024x768 .bf16) (G : FVec Ideal S1024x8 .bf16)
    (h : Shape.Concatenates ((List.ofFn fun e : Fin 8 =>
      (⟨S1024x768, scaled X G e (slices_gate e)⟩ : (s : Shape) × (s.Idx → Ideal .bf16))).map (·.1)) S1024x6144 1)
    (r : Fin 1024) (k : Fin 6144) :
    concatenate S1024x6144 1 (List.ofFn fun e : Fin 8 => ⟨S1024x768, scaled X G e (slices_gate e)⟩) h (ix2 r k)
      = G (ix2 r (expert k)) * X (ix2 r (feature k)) := by
  rw [← scaled_apply X G (expert k) (slices_gate _) r (feature k)]
  exact concatenate_ofFn_apply (t := S1024x6144) (s₁ := S1024x768) 1 (fun e : Fin 8 => scaled X G e (slices_gate e)) h rfl 768 rfl
    (ix2 r k) (expert k) rfl (ix2 r (feature k)) rfl (fun b hb => by
      fin_cases b
      · rfl
      · exact absurd rfl hb)

/-- The stored payload at a row and a column. -/
theorem payload_apply (x : Vec Ideal S1024x768 .f32) (g : Vec Ideal S1024x8 .f32) (b : Vec Ideal S8x768 .bf16)
    (w : Vec Ideal S6144x768 .bf16) (r : Fin 1024) (c : Fin 768) :
    k0_pay1 (F := Ideal) x g b w (ix2 r c)
      = stackedMixture (fun e => max (g (ix2 r e)) 0) (fun d => x (ix2 r d)) (fun e d => w (ix2 (stacked e d) c))
          (fun e => b (ix2 e c)) := by
  have hg : ∀ e : Fin 8, (truncf .bf16 (maximumf (F := Ideal) g (broadcast S1024x8 (Scalar.ofBits .f32 0x00000000#32)))
      bitsLt_bf16_f32) (ix2 r e) = max (g (ix2 r e)) 0 := fun e => by
    show max (g (ix2 r e)) (Ideal.ofBits .f32 0x00000000#32) = _
    rw [Ideal.ofBits_zero_f32]
  unfold k0_pay1 stackedMixture
  simp only [shapeCast_self]
  rw [addf_apply]
  refine congrArg₂ (· + ·) ?_ ?_
  · refine (Ideal.matmul_plain_apply (M := 1024) (K := 8) (N := 768) none _ _ _ r c).trans ?_
    rw [constant_apply, Ideal.ofBits_zero_f32, zero_add]
    exact Finset.sum_congr rfl fun e _ => congrArg (· * b (ix2 e c)) (hg e)
  · refine (Ideal.matmul_plain_apply (M := 1024) (K := 6144) (N := 768) none _ _ _ r c).trans ?_
    rw [constant_apply, Ideal.ofBits_zero_f32, zero_add]
    refine Finset.sum_congr rfl fun k _ => ?_
    rw [stacked_expert_feature]
    refine congrArg (· * w (ix2 k c)) ?_
    refine (concat_apply _ _
      concatenates_S1024x768_S1024x768_S1024x768_S1024x768_S1024x768_S1024x768_S1024x768_S1024x768_S1024x6144_d1 r k).trans ?_
    rw [shapeCast_self g, shapeCast_self x, hg, truncf_apply]

end Cert.Proof.Block

end
-- ==== Proof.Tokens.lean ====
/- The mixture over an array of tokens: 32768 rows of 768 features and 8 gates, 8 experts' weights and biases. Both programs'
   results are stated as this one function. -/
module

public import proofs.«01_k».proof.Proof.Mixture
public import Idealize.ShloMosaic.Lib.ValueIdx

@[expose] public section

noncomputable section

namespace Cert.Proof.Tokens

open Idealize.ShloMosaic Idealize.ShloMosaic.ValueIdx Cert.Proof.Mixture

/-- Arrays of extended reals of the programs' shapes. -/
abbrev Features := Shape.Idx ⟨2, ![32768, 768]⟩ → EReal
abbrev Gates := Shape.Idx ⟨2, ![32768, 8]⟩ → EReal
abbrev Weights := Shape.Idx ⟨3, ![8, 768, 768]⟩ → EReal
abbrev StackedWeights := Shape.Idx ⟨2, ![6144, 768]⟩ → EReal
abbrev Biases := Shape.Idx ⟨2, ![8, 768]⟩ → EReal

/-- The mixture at every token and output column. -/
def tokens (X : Features) (G : Gates) (W : Weights) (B : Biases) : Features := fun i =>
  mixture (fun e => max (G (ix2 (i 0) e)) 0) (fun d => X (ix2 (i 0) d)) (fun e d => W (ix3 e d (i 1))) (fun e => B (ix2 e (i 1)))

/-- The stacked mixture at every token and output column. -/
def stackedTokens (X : Features) (G : Gates) (W : StackedWeights) (B : Biases) : Features := fun i =>
  stackedMixture (fun e => max (G (ix2 (i 0) e)) 0) (fun d => X (ix2 (i 0) d)) (fun e d => W (ix2 (stacked e d) (i 1)))
    (fun e => B (ix2 e (i 1)))

/-- The two are equal when every gate is below +∞ and the stacked weights are the weights, expert after expert. -/
theorem stackedTokens_eq (X : Features) {G : Gates} (hG : ∀ i, G i < ⊤) {W : StackedWeights} {W' : Weights}
    (hW : ∀ e d n, W (ix2 (stacked e d) n) = W' (ix3 e d n)) (B : Biases) : stackedTokens X G W B = tokens X G W' B := by
  funext i
  refine (stackedMixture_eq (fun e => gate_nonneg _) (fun e => gate_ne_top (hG _)) _ _ _).trans ?_
  exact congrArg (fun w => mixture _ _ w _) (funext fun e => funext fun d => hW e d _)

end Cert.Proof.Tokens

end
-- ==== Proof.Region.lean ====
/- What the kernel's result array holds after all thirty-two blocks are written back, at the ideal values: at each token and
   output column the stacked mixture of the token's row, as one function of the four arrays the blocks are read from. -/
module

public import proofs.«01_k».proof.Proof.Gen.KernelIdeal.Frame
public import proofs.«01_k».proof.Proof.Block
public import proofs.«01_k».proof.Proof.Tokens

@[expose] public section

noncomputable section

namespace Cert.Proof.Region

open Idealize.ShloMosaic Idealize.ShloMosaic.TcCoe Idealize.SL.Sem Idealize.ShloMosaic.ValueIdx
open Idealize.ShloMosaic.Pipeline (Dat)
open Cert.KernelIdeal Cert.KernelIdeal.Gen Cert.Proof.Mixture Cert.Proof.Tokens

variable (m : (ℓ : Loc nD τ sig) → Buf (Elt Ideal) ℓ)

/-- The features, gates, stacked weights and biases as the blocks are read from them. -/
abbrev features (c : Dev nD) : S32768x768.Idx → EReal := V m c main_v0
abbrev gates (c : Dev nD) : S32768x8.Idx → EReal := V m c main_v1
abbrev weights (c : Dev nD) : S6144x768.Idx → EReal := V m c main_v3
abbrev biases (c : Dev nD) : S8x768.Idx → EReal := V m c main_v4

/-- The token that row `r` of block `t` is: the blocks are 1024 consecutive tokens each. -/
def token (t : Fin cfg0.N) (r : Fin 1024) : Fin 32768 :=
  ⟨t.val * 1024 + r.val, by have h := t.isLt; have := r.isLt; have : cfg0.N = 32 := N_0; omega⟩

/-- The three row-blocked windows take block `t` at point `t`, and every column of it; -/
theorem index_rows : ∀ t : Fin grid0.N, (win0_0.index t 0 = t.val ∧ win0_0.index t 1 = 0)
    ∧ (win0_1.index t 0 = t.val ∧ win0_1.index t 1 = 0) ∧ (win0_4.index t 0 = t.val ∧ win0_4.index t 1 = 0) := by
  decide +kernel

/-- and the weights' and the biases' windows take their whole arrays. -/
theorem index_whole : ∀ t : Fin grid0.N, (win0_2.index t 0 = 0 ∧ win0_2.index t 1 = 0)
    ∧ (win0_3.index t 0 = 0 ∧ win0_3.index t 1 = 0) := by
  decide +kernel

/-- Block `t` of the features at row `r`, feature `d`. -/
theorem features_block (c : Dev nD) (t : Fin cfg0.N) (r : Fin 1024) (d : Fin 768) :
    (iblk m c 0 t : S1024x768.Idx → EReal) (ix2 r d) = features m c (ix2 (token t r) d) := by
  show features m c ((win0_0.rect t).emb (ix2 r d)) = _
  refine congrArg (features m c) (Shape.idx_ext₂ ?_ ?_)
  · rw [win0_0.rect_emb_val t (ix2 r d) 0, (index_rows t).1.1]; rfl
  · exact win0_0.rect_emb_val_of_index_zero t 1 (index_rows t).1.2 (ix2 r d)

/-- Block `t` of the gates at row `r`, expert `e`. -/
theorem gates_block (c : Dev nD) (t : Fin cfg0.N) (r : Fin 1024) (e : Fin 8) :
    (iblk m c 1 t : S1024x8.Idx → EReal) (ix2 r e) = gates m c (ix2 (token t r) e) := by
  show gates m c ((win0_1.rect t).emb (ix2 r e)) = _
  refine congrArg (gates m c) (Shape.idx_ext₂ ?_ ?_)
  · rw [win0_1.rect_emb_val t (ix2 r e) 0, (index_rows t).2.1.1]; rfl
  · exact win0_1.rect_emb_val_of_index_zero t 1 (index_rows t).2.1.2 (ix2 r e)

/-- The weights' block is the whole array, at every point. -/
theorem weights_block (c : Dev nD) (t : Fin cfg0.N) (k : Fin 6144) (n : Fin 768) :
    (iblk m c 2 t : S6144x768.Idx → EReal) (ix2 k n) = weights m c (ix2 k n) := by
  show weights m c ((win0_2.rect t).emb (ix2 k n)) = _
  exact congrArg (weights m c) (Shape.idx_ext₂ (win0_2.rect_emb_val_of_index_zero t 0 (index_whole t).1.1 (ix2 k n))
    (win0_2.rect_emb_val_of_index_zero t 1 (index_whole t).1.2 (ix2 k n)))

/-- The biases' block is the whole array, at every point. -/
theorem biases_block (c : Dev nD) (t : Fin cfg0.N) (e : Fin 8) (n : Fin 768) :
    (iblk m c 3 t : S8x768.Idx → EReal) (ix2 e n) = biases m c (ix2 e n) := by
  show biases m c ((win0_3.rect t).emb (ix2 e n)) = _
  exact congrArg (biases m c) (Shape.idx_ext₂ (win0_3.rect_emb_val_of_index_zero t 0 (index_whole t).2.1 (ix2 e n))
    (win0_3.rect_emb_val_of_index_zero t 1 (index_whole t).2.2 (ix2 e n)))

/-- Where row `r`, column `n` of the result's block `t` sits in the result array. -/
theorem result_position (t : Fin cfg0.N) (r : Fin 1024) (n : Fin 768) :
    ((win0_4.rect t).emb (ix2 r n) : S32768x768.Idx) = ix2 (token t r) n := by
  refine Shape.idx_ext₂ ?_ ?_
  · rw [win0_4.rect_emb_val t (ix2 r n) 0, (index_rows t).2.2.1]; rfl
  · exact win0_4.rect_emb_val_of_index_zero t 1 (index_rows t).2.2.2 (ix2 r n)

/-- The offset of every access the body makes is zero on both axes. -/
theorem offset_zero : (![0, 0] : Fin 2 → Nat) = fun _ => 0 := funext fun a => by fin_cases a <;> rfl

/-- What point `t` writes back is block `t` of the stacked mixture over all tokens. -/
theorem flushed_tokens (c : Dev nD) (t : Fin cfg0.N) :
    (dats m 0 c).flushed 4 t
      = (win0_4.blk t).view.read (Elt Ideal) (stackedTokens (features m c) (gates m c) (weights m c) (biases m c)) := by
  show (cfg0.win 4).cut (grid0.coords t) ((dats m 0 c).after 4 t) = _
  rw [after0_4]
  unfold out0_4
  rw [View.canon_unit_zero offset_zero, View.ld_unit_zero offset_zero, View.ld_unit_zero offset_zero,
    View.ld_unit_zero offset_zero, View.ld_unit_zero offset_zero]
  refine funext fun y => ?_
  obtain ⟨r, n, rfl⟩ : ∃ (r : Fin 1024) (n : Fin 768), y = ix2 r n := ⟨_, _, eq_ix2 (n0 := 1024) (n1 := 768) y⟩
  show k0_pay1 (F := Ideal) (iblk m c 0 t) (iblk m c 1 t) (iblk m c 3 t) (iblk m c 2 t) (ix2 r n)
    = stackedTokens (features m c) (gates m c) (weights m c) (biases m c) ((win0_4.rect t).emb (ix2 r n))
  refine (Block.payload_apply _ _ _ _ r n).trans ?_
  rw [result_position]
  simp only [features_block, gates_block, weights_block, biases_block]
  rfl

/-- An index of the result array is in point `t`'s block when its token is one of the block's 1024. -/
theorem mem_block (t : Fin cfg0.N) (i : S32768x768.Idx) (h : t.val = (i 0).val / 1024) :
    i ∈ ((cfg0.win 4).blk t).view.set := by
  obtain ⟨p, n, rfl⟩ : ∃ (p : Fin 32768) (n : Fin 768), i = ix2 p n := ⟨_, _, eq_ix2 (n0 := 32768) (n1 := 768) i⟩
  have h : t.val = p.val / 1024 := h
  have e : (ix2 p n : S32768x768.Idx)
      = (win0_4.rect t).emb (ix2 (⟨p.val % 1024, Nat.mod_lt _ (by decide)⟩ : Fin 1024) n) := by
    refine Eq.trans ?_ (result_position t _ n).symm
    refine Shape.idx_ext₂ ?_ rfl
    show p.val = t.val * 1024 + p.val % 1024
    omega
  rw [e]
  exact (win0_4.blk t).view.emb_mem_set (ix2 (⟨p.val % 1024, Nat.mod_lt _ (by decide)⟩ : Fin 1024) n)

/-- The blocks cover the result array. -/
theorem cover (i : S32768x768.Idx) : ∃ t : Fin cfg0.N, (cfg0.win 4).flush t = true ∧ i ∈ ((cfg0.win 4).blk t).view.set := by
  have h0 : (i 0).val < 32768 := (i 0).isLt
  have hN : cfg0.N = 32 := N_0
  exact ⟨⟨(i 0).val / 1024, by omega⟩, flush0_4 _, mem_block _ i rfl⟩

/-- The result array after the last block is written back. -/
theorem array_tokens (c : Dev nD) :
    (dats m 0 c).arrAt 4 cfg0.N = stackedTokens (features m c) (gates m c) (weights m c) (biases m c) :=
  (dats m 0 c).arrAt_eq_of_cover 4 _ (fun t _ => flushed_tokens m c t) cover

end Cert.Proof.Region

end
-- ==== Proof.Whole.lean ====
/- The kernel's whole program at the ideal values: the reshapes and roundings before the blocks are read, the result array the
   blocks leave, and the reshape after them. With gates below +∞ the result is the reference's mixture. -/
module

public import proofs.«01_k».proof.Proof.Region
public import Idealize.ShloMosaic.Lib.StableHlo.Run

@[expose] public section

noncomputable section

namespace Cert.Proof.Whole

open Idealize.ShloMosaic Idealize.ShloMosaic.TcCoe Idealize.SL.Sem Idealize.ShloMosaic.ValueIdx
open Cert.KernelIdeal Cert.KernelIdeal.Gen Cert.Proof.Mixture Cert.Proof.Tokens Cert.Proof.Region

variable (m : (ℓ : Loc nD τ sig) → Buf (Elt Ideal) ℓ) (ρ : Dev nD → PrngReg)

/-- The four argument arrays of a device. -/
abbrev input (c : Dev nD) : S4x8192x768.Idx → EReal := m ((c : Thread nD τ).loc main_arg0)
abbrev gateInput (c : Dev nD) : S4x8192x8.Idx → EReal := m ((c : Thread nD τ).loc main_arg1)
abbrev weightInput (c : Dev nD) : S8x768x768.Idx → EReal := m ((c : Thread nD τ).loc main_arg2)
abbrev biasInput (c : Dev nD) : S8x768.Idx → EReal := m ((c : Thread nD τ).loc main_arg3)

/-- The features are the input with its tokens in one axis; -/
theorem features_eq (c : Dev nD) :
    features m c = shapeCast S32768x768 (input m c) shapeCasts_S4x8192x768_S32768x768 := by
  show StableHlo.after hostOps0 _ (Proc.devRef .tc main_v0) = _
  after_results
  rfl

/-- the gates likewise; -/
theorem gates_eq (c : Dev nD) : gates m c = shapeCast S32768x8 (gateInput m c) shapeCasts_S4x8192x8_S32768x8 := by
  show StableHlo.after hostOps0 _ (Proc.devRef .tc main_v1) = _
  after_results
  rfl

/-- the weights are stacked along the contraction; -/
theorem weights_eq (c : Dev nD) : weights m c = shapeCast S6144x768 (weightInput m c) shapeCasts_S8x768x768_S6144x768 := by
  show StableHlo.after hostOps0 _ (Proc.devRef .tc main_v3) = _
  after_results
  rfl

/-- and the biases are as given. -/
theorem biases_eq (c : Dev nD) : biases m c = biasInput m c := by
  show StableHlo.after hostOps0 _ (Proc.devRef .tc main_v4) = _
  after_results
  rfl

/-- The stacked weights at an expert's feature are that expert's weights there. -/
theorem weights_apply (c : Dev nD) (e : Fin 8) (d n : Fin 768) :
    weights m c (ix2 (stacked e d) n) = weightInput m c (ix3 e d n) := by
  rw [weights_eq]
  refine shapeCast_apply _ _ _ _ ?_
  rw [Shape.rowMajor_val_three, Shape.rowMajor_val_two]
  rfl

/-- With every gate below +∞ the result array, after the last block, is the mixture. -/
theorem array_eq (c : Dev nD) (h : ∀ i, gateInput m c i < ⊤) :
    (dats m 0 c).arrAt 4 cfg0.N = tokens (shapeCast S32768x768 (input m c) shapeCasts_S4x8192x768_S32768x768)
      (shapeCast S32768x8 (gateInput m c) shapeCasts_S4x8192x8_S32768x8) (weightInput m c) (biasInput m c) := by
  refine (array_tokens m c).trans ?_
  rw [features_eq, gates_eq, biases_eq]
  exact stackedTokens_eq _ (fun i => h _) (weights_apply m c) _

/-- The reshape after the blocks: the program's result is the result array with its tokens back in batches. -/
theorem tail_eq (c : Dev nD) :
    Pipeline.afterTail₀ cfgs (dats m) 0 (V0 m) [hostOps1] c main_v6
      = shapeCast S4x8192x768 ((dats m 0 c).arrAt 4 cfg0.N : S32768x768.Idx → EReal) shapeCasts_S32768x768_S4x8192x768 := by
  unfold Pipeline.afterTail₀
  show StableHlo.after hostOps1 _ (Proc.devRef .tc main_v6) = _
  after_results
  exact congrArg (fun v : S32768x768.Idx → EReal => shapeCast S4x8192x768 v shapeCasts_S32768x768_S4x8192x768)
    (Pipeline.withArrays_arr spec0 (by decide) c (V0 m c) (fun w => (dats m 0 c).arrAt w cfg0.N) 4)

/-- The value the kernel's program leaves. -/
def result (c : Dev nD) : S4x8192x768.Idx → EReal :=
  shapeCast S4x8192x768 (tokens (shapeCast S32768x768 (input m c) shapeCasts_S4x8192x768_S32768x768)
    (shapeCast S32768x8 (gateInput m c) shapeCasts_S4x8192x8_S32768x8) (weightInput m c) (biasInput m c))
    shapeCasts_S32768x768_S4x8192x768

/-- The kernel's run: with every gate below +∞ it ends with the mixture as its result and its arguments unchanged. -/
theorem run (h : ∀ (c : Dev nD) i, gateInput m c i < ⊤) :
    θ_run defs (onTc (τ := τ) (main (F := Ideal))) ⟨m, fun _ => 0, ρ⟩ (fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  refine (θ_run defs _ _).mono (fun r hr c => ⟨?_, hr.2 c⟩) (θ_run_and (run_main m ρ) (unchanged m ρ))
  refine ((hr.1 c).2 main_v6 (Pipeline.mem_restRefs_of main_v6 (by decide) (by decide))).trans ?_
  rw [tail_eq, array_eq m c (h c)]
  rfl

end Cert.Proof.Whole

end
-- ==== Proof.Expert.lean ====
/- What the reference computes, at the ideal values: its result, before the last reshape, read at a token and an output
   column is the mixture over the eight experts of the token's gates, cut off at zero. -/
module

public import proofs.«01_k».proof.Proof.Gen.ReferenceIdeal.Run
public import proofs.«01_k».proof.Proof.Tokens
public import Idealize.ShloMosaic.Lib.ValueIdx
public import Idealize.ShloMosaic.Lib.ValueLayout
public import Idealize.ShloMosaic.Lib.StackMember
public import Idealize.ShloMosaic.Lib.Pipeline.Value

@[expose] public section

noncomputable section

namespace Cert.Proof.Expert

open Idealize.ShloMosaic Idealize.ShloMosaic.TcCoe Idealize.SL.Sem Idealize.ShloMosaic.ValueIdx
open Cert.ReferenceIdeal Cert.ReferenceIdeal.Gen Cert.ReferenceIdeal.Value Cert.Proof.Mixture Cert.Proof.Tokens

/-- A float zero spread over an array is zero at every index. -/
theorem zero_splat (T : Shape) (h : S_.BroadcastsInDim T ![]) (i : T.Idx) :
    broadcastInDim T ![] h (constant (F := Ideal) S_ .f32 0x00000000#32) i = (0 : EReal) := by
  show Ideal.ofBits .f32 0x00000000#32 = 0
  exact Ideal.ofBits_zero_f32

/-- The gates where they are above zero, and zero elsewhere: the larger of the gate and zero, at every index. -/
theorem gate_apply (G : FVec Ideal S32768x8 .f32) (i : S32768x8.Idx) :
    select (cmpf .ogt G (broadcastInDim S32768x8 ![] bcast_S_S32768x8 (constant S_ .f32 0x00000000#32))) G
      (broadcastInDim S32768x8 ![] bcast_S_S32768x8 (constant S_ .f32 0x00000000#32)) i = max (G i) 0 := by
  rw [select_apply, cmpf_apply, zero_splat]
  show Scalar.select (BitVec.ofBool (decide ((0 : EReal) < G i))) (G i) 0 = max (G i) 0
  by_cases h : (0 : EReal) < G i
  · rw [decide_eq_true h, max_eq_left h.le]; rfl
  · rw [decide_eq_false h, max_eq_right (not_lt.1 h)]; rfl

/-- One expert's term as the reference spells it: its gate column times the sum of the product with its weights and its bias. -/
def term (X : FVec Ideal S32768x768 .f32) (G : FVec Ideal S32768x8 .f32) (W : FVec Ideal S8x768x768 .f32)
    (B : FVec Ideal S8x768 .f32) (e : Nat) (hG : S32768x8.Slices ![0, e] S32768x1) (hW : S8x768x768.Slices ![e, 0, 0] S1x768x768)
    (hB : S8x768.Slices ![e, 0] S1x768) : FVec Ideal S32768x768 .f32 :=
  mulf (broadcastInDim S32768x768 ![0, 1] bcast_S32768x1_S32768x768_0_1 (extractStridedSlice S32768x1 ![0, e] G hG))
    (addf (Host.dotGeneral dot_S32768x768_S768x768_S32768x768_1_0_0_1_n_n none X
        (shapeCast S768x768 (extractStridedSlice S1x768x768 ![e, 0, 0] W hW) shapeCasts_S1x768x768_S768x768))
      (broadcastInDim S32768x768 ![0, 1] bcast_S1x768_S32768x768_0_1
        (broadcastInDim S1x768 ![1] bcast_S768_S1x768_1
          (shapeCast S768 (extractStridedSlice S1x768 ![e, 0] B hB) shapeCasts_S1x768_S768))))

/-- Expert `e`'s weights, sliced out of the stack, at a feature and an output column. -/
theorem weights_apply (W : FVec Ideal S8x768x768 .f32) (e : Fin 8) (hW : S8x768x768.Slices ![e.val, 0, 0] S1x768x768)
    (d n : Fin 768) :
    shapeCast S768x768 (extractStridedSlice S1x768x768 ![e.val, 0, 0] W hW) shapeCasts_S1x768x768_S768x768 (ix2 d n)
      = W (ix3 e d n) := by
  refine (shapeCast_1ab_ab_apply _ _ d n).trans ?_
  exact extractStridedSlice_apply _ _ _ _ _ (fun a => by fin_cases a <;> simp [ix3])

/-- Expert `e`'s bias, sliced out and spread over the tokens, at a token and an output column. -/
theorem bias_apply (B : FVec Ideal S8x768 .f32) (e : Fin 8) (hB : S8x768.Slices ![e.val, 0] S1x768) (p : Fin 32768) (n : Fin 768) :
    broadcastInDim S32768x768 ![0, 1] bcast_S1x768_S32768x768_0_1 (broadcastInDim S1x768 ![1] bcast_S768_S1x768_1
      (shapeCast S768 (extractStridedSlice S1x768 ![e.val, 0] B hB) shapeCasts_S1x768_S768)) (ix2 p n) = B (ix2 e n) := by
  rw [broadcastInDim_apply _ _ _ (ix2 p n) (ix2 (0 : Fin 1) n) (fun a => by fin_cases a <;> rfl),
    broadcastInDim_apply _ _ _ (ix2 (0 : Fin 1) n) (ix1 n) (fun a => by fin_cases a <;> rfl)]
  refine (shapeCast_1a_a_apply _ _ n).trans ?_
  exact slice2_axis0_apply e.val B hB 0 n e rfl

/-- One expert's term at a token and an output column. -/
theorem term_apply (X : FVec Ideal S32768x768 .f32) (G : FVec Ideal S32768x8 .f32) (W : FVec Ideal S8x768x768 .f32)
    (B : FVec Ideal S8x768 .f32) (e : Fin 8) (hG : S32768x8.Slices ![0, e.val] S32768x1)
    (hW : S8x768x768.Slices ![e.val, 0, 0] S1x768x768) (hB : S8x768.Slices ![e.val, 0] S1x768) (p : Fin 32768) (n : Fin 768) :
    term X G W B e.val hG hW hB (ix2 p n) = G (ix2 p e) * ((∑ d : Fin 768, X (ix2 p d) * W (ix3 e d n)) + B (ix2 e n)) := by
  unfold term
  rw [mulf_apply, addf_apply, bias_apply B e hB p n]
  refine congrArg₂ (· * ·) ?_ (congrArg (· + B (ix2 e n)) ?_)
  · rw [broadcastInDim_apply _ _ _ (ix2 p n) (ix2 p (0 : Fin 1)) (fun a => by fin_cases a <;> rfl)]
    exact slice2_axis1_apply e.val G hG p 0 e rfl
  · refine (StackMember.dotGeneral_plain_apply (m := 32768) (k := 768) (n := 768) none X _ p n).trans ?_
    exact Finset.sum_congr rfl fun d _ => congrArg (X (ix2 p d) * ·) (weights_apply W e hW d n)

/-- A position of the reference's sum: what is added so far, and the next expert's term, each at its value. -/
theorem add_term {X : FVec Ideal S32768x768 .f32} {G : FVec Ideal S32768x8 .f32} {W : FVec Ideal S8x768x768 .f32}
    {B : FVec Ideal S8x768 .f32} {S : FVec Ideal S32768x768 .f32} {e : Nat} {hG : S32768x8.Slices ![0, e] S32768x1}
    {hW : S8x768x768.Slices ![e, 0, 0] S1x768x768} {hB : S8x768.Slices ![e, 0] S1x768} {p : Fin 32768} {n : Fin 768}
    {s : EReal} (he : e < 8) (hs : S (ix2 p n) = s) :
    addf S (term X G W B e hG hW hB) (ix2 p n)
      = s + G (ix2 p ⟨e, he⟩) * ((∑ d : Fin 768, X (ix2 p d) * W (ix3 ⟨e, he⟩ d n)) + B (ix2 ⟨e, he⟩ n)) := by
  rw [addf_apply, hs]
  exact congrArg (s + ·) (term_apply X G W B ⟨e, he⟩ hG hW hB p n)

/-- The reference's sum over the experts, from any zero array: the eight terms added in order, at a token and a column. -/
theorem sum_terms (X : FVec Ideal S32768x768 .f32) (G : FVec Ideal S32768x8 .f32) (W : FVec Ideal S8x768x768 .f32)
    (B : FVec Ideal S8x768 .f32) (Z : FVec Ideal S32768x768 .f32) (p : Fin 32768) (n : Fin 768) (hZ : Z (ix2 p n) = 0) :
    addf (addf (addf (addf (addf (addf (addf (addf Z
      (term X G W B 0 slices_S32768x8_S32768x1_0_0 slices_S8x768x768_S1x768x768_0_0_0 slices_S8x768_S1x768_0_0))
      (term X G W B 1 slices_S32768x8_S32768x1_0_1 slices_S8x768x768_S1x768x768_1_0_0 slices_S8x768_S1x768_1_0))
      (term X G W B 2 slices_S32768x8_S32768x1_0_2 slices_S8x768x768_S1x768x768_2_0_0 slices_S8x768_S1x768_2_0))
      (term X G W B 3 slices_S32768x8_S32768x1_0_3 slices_S8x768x768_S1x768x768_3_0_0 slices_S8x768_S1x768_3_0))
      (term X G W B 4 slices_S32768x8_S32768x1_0_4 slices_S8x768x768_S1x768x768_4_0_0 slices_S8x768_S1x768_4_0))
      (term X G W B 5 slices_S32768x8_S32768x1_0_5 slices_S8x768x768_S1x768x768_5_0_0 slices_S8x768_S1x768_5_0))
      (term X G W B 6 slices_S32768x8_S32768x1_0_6 slices_S8x768x768_S1x768x768_6_0_0 slices_S8x768_S1x768_6_0))
      (term X G W B 7 slices_S32768x8_S32768x1_0_7 slices_S8x768x768_S1x768x768_7_0_0 slices_S8x768_S1x768_7_0) (ix2 p n)
      = mixture (fun e => G (ix2 p e)) (fun d => X (ix2 p d)) (fun e d => W (ix3 e d n)) (fun e => B (ix2 e n)) := by
  unfold mixture
  rw [Fin.sum_univ_eight]
  refine (add_term (by decide) (add_term (by decide) (add_term (by decide) (add_term (by decide) (add_term (by decide)
    (add_term (by decide) (add_term (by decide) (add_term (by decide) hZ)))))))).trans ?_
  rw [zero_add]
  rfl

variable (m : (ℓ : Loc nD τ sig) → Buf (Elt Ideal) ℓ)

/-- The reference's result is the mixture of the flattened features and gates, reshaped back to batches of tokens. -/
theorem result_eq (c : Dev nD) :
    res_out0 m c = shapeCast S4x8192x768
      (tokens (shapeCast S32768x768 (m ((c : Thread nD τ).loc main_arg0)) shapeCasts_S4x8192x768_S32768x768)
        (shapeCast S32768x8 (m ((c : Thread nD τ).loc main_arg1)) shapeCasts_S4x8192x8_S32768x8)
        (m ((c : Thread nD τ).loc main_arg2)) (m ((c : Thread nD τ).loc main_arg3))) shapeCasts_S32768x768_S4x8192x768 := by
  unfold res_out0 res_main_v103
  refine congrArg (fun v => shapeCast S4x8192x768 v shapeCasts_S32768x768_S4x8192x768) (funext fun i => ?_)
  obtain ⟨p, n, rfl⟩ : ∃ (p : Fin 32768) (n : Fin 768), i = ix2 p n := ⟨_, _, eq_ix2 (n0 := 32768) (n1 := 768) i⟩
  refine (sum_terms _ _ _ _ _ p n (zero_splat _ _ _)).trans ?_
  exact congrArg (fun g => mixture g _ _ _) (funext fun e => gate_apply _ (ix2 p e))

end Cert.Proof.Expert

end
-- ==== Proof.Gates.lean ====
/- What the precondition says: where `jnp.all(gates < inf)` is one, every gate is below +∞. -/
module

public import proofs.«01_k».proof.Proof.Gen.Pre_gates_below_infinity
public import Idealize.ShloMosaic.Lib.ReduceAll
public import Idealize.ShloMosaic.PureOps.Ideal.Laws

@[expose] public section

noncomputable section

namespace Cert.Proof.Gates

open Idealize.ShloMosaic Cert.Pre_gates_below_infinity Cert.Pre_gates_below_infinity.Facts

/-- The float constant `inf` is +∞. -/
theorem inf_eq : Ideal.ofBits .f32 0x7F800000#32 = ⊤ := by simp [Ideal.ofBits, Ideal.ieee]

/-- Under the precondition every gate is below +∞. -/
theorem below [Facts] (x : FVec Ideal S4x8192x768 .f32) (g : FVec Ideal S4x8192x8 .f32) (w : FVec Ideal S8x768x768 .f32)
    (b : FVec Ideal S8x768 .f32) (h : fn (F := Ideal) x g w b = fun _ => 1#1) (i : S4x8192x8.Idx) : g i < ⊤ := by
  haveI : Subsingleton S_.Idx := ⟨fun a b => funext fun k => k.elim0⟩
  have h1 := congrFun h (fun k => k.elim0)
  unfold fn at h1
  have e := Host.reduce_andi_all _ _ _ _ _ h1 i
  have e : BitVec.ofBool (decide (g i < Ideal.ofBits .f32 0x7F800000#32)) = 1#1 := e
  rw [inf_eq] at e
  by_contra hn
  rw [decide_eq_false hn] at e
  exact absurd e (by decide)

end Cert.Proof.Gates

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_gates_below_infinity
public import proofs.«01_k».proof.Proof.Whole
public import proofs.«01_k».proof.Proof.Expert
public import proofs.«01_k».proof.Proof.Gates
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs to the end, leaves its arguments unchanged, and has no semaphore to leave raised. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- From the same arguments, with every gate below +∞, the kernel and the reference leave the same result. -/
theorem value : Cert.algebraic_KernelIdeal_ReferenceIdeal_pre_gates_below_infinity := fun m ρ m' ρ' hpre hargs =>
  ⟨Whole.result m, Whole.run m ρ (fun c i => Gates.below _ _ _ _ (hpre c) i),
    (θ_run Cert.ReferenceIdeal.defs _ _).mono (fun r h c => ⟨(h c).1.trans (by
      refine (Expert.result_eq m' c).trans ?_
      rw [(hargs c).1, (hargs c).2.1, (hargs c).2.2.1, (hargs c).2.2.2]
      rfl), (h c).2⟩) (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts, Cert.Pre_gates_below_infinity.Gen.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, value⟩

end Cert.Proof

end
